-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_windows [hPre_positive_windows : Cert.Pre_positive_windows.Facts] (m : (ℓ : Loc Cert.KernelIdeal.nD Cert.KernelIdeal.τ Cert.KernelIdeal.sig) → Buf (Elt Ideal) ℓ) : Prop :=
  ∀ c : Dev Cert.KernelIdeal.nD,
    (Cert.Pre_positive_windows.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_windows [hPre_positive_windows : Cert.Pre_positive_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_windows.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_positive_windows [hKernelIdeal : Cert.KernelIdeal.Facts] [hPre_positive_windows : Cert.Pre_positive_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_windows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_positive_windows [hReferenceIdeal : Cert.ReferenceIdeal.Facts] [hPre_positive_windows : Cert.Pre_positive_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_positive_windows [hKernelIdeal : Cert.KernelIdeal.Facts] [hReferenceIdeal : Cert.ReferenceIdeal.Facts] [hPre_positive_windows : Cert.Pre_positive_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_windows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_positive_windows : Cert.Pre_positive_windows.Facts),
    quiescent_Kernel (hKernel := hKernel)
    ∧ quiescent_KernelIdeal (hKernelIdeal := hKernelIdeal)
    ∧ quiescent_KernelIdeal_pre_positive_windows (hKernelIdeal := hKernelIdeal) (hPre_positive_windows := hPre_positive_windows)
    ∧ quiescent_ReferenceIdeal (hReferenceIdeal := hReferenceIdeal)
    ∧ quiescent_ReferenceIdeal_pre_positive_windows (hReferenceIdeal := hReferenceIdeal) (hPre_positive_windows := hPre_positive_windows)
    ∧ preserves_Kernel_KernelIdeal
    ∧ algebraic_KernelIdeal_ReferenceIdeal_pre_positive_windows (hKernelIdeal := hKernelIdeal) (hReferenceIdeal := hReferenceIdeal) (hPre_positive_windows := hPre_positive_windows)
-- ==== Pre_positive_windows.lean ====
abbrev S32x56x56x256 : Shape := ⟨4, ![32, 56, 56, 256]⟩
abbrev S_ : Shape := ⟨0, ![]⟩
abbrev S32x56x56x512 : Shape := ⟨4, ![32, 56, 56, 512]⟩
abbrev S32x56x56x1 : Shape := ⟨4, ![32, 56, 56, 1]⟩
abbrev S32x56x56x513 : Shape := ⟨4, ![32, 56, 56, 513]⟩

class Facts : Prop where
  pads_S32x56x56x256_S32x56x56x512_000_000_000_1281280 : S32x56x56x256.Pads (![0, 0, 0, 128] : Fin 4 → Nat) ![0, 0, 0, 128] ![0, 0, 0, 0] S32x56x56x512
  h_S_ : 0 < S_.numel
  bcast_S_S_ : S_.BroadcastsInDim S_ (![] : Fin 0 → Fin S_.rank)
  reduceWindows_S32x56x56x512_S32x56x56x512_w1s1p0_0_w1s1p0_0_w1s1p0_0_w512s1p511_0 : S32x56x56x512.ReduceWindows (![1, 1, 1, 512] : Fin 4 → Nat) ![1, 1, 1, 1] ![0, 0, 0, 511] ![0, 0, 0, 0] S32x56x56x512
  bcast_S_S32x56x56x1 : S_.BroadcastsInDim S32x56x56x1 (![] : Fin 0 → Fin S32x56x56x1.rank)
  concatenates_S32x56x56x1_S32x56x56x512_S32x56x56x513_d3 : Shape.Concatenates [S32x56x56x1, S32x56x56x512] S32x56x56x513 3
  slices_S32x56x56x513_S32x56x56x256_0_0_0_256 : S32x56x56x513.Slices ![0, 0, 0, 256] S32x56x56x256
  slices_S32x56x56x513_S32x56x56x256_0_0_0_0 : S32x56x56x513.Slices ![0, 0, 0, 0] S32x56x56x256
  bcast_S_S32x56x56x256 : S_.BroadcastsInDim S32x56x56x256 (![] : Fin 0 → Fin S32x56x56x256.rank)

variable [Facts]

def fn_pad {F : FTy → Type} [FloatOps F] (arg0 : FVec F S32x56x56x256 .f32) (arg1 : IVec S_ 32) : FVec F S32x56x56x512 .f32 :=
  let v0 : FVec F S_ .f32 := sitofp .f32 arg1
  let v1 : FVec F S32x56x56x512 .f32 := (fun x v => pad S32x56x56x512 ![0, 0, 0, 128] ![0, 0, 0, 128] ![0, 0, 0, 0] x v pads_S32x56x56x256_S32x56x56x512_000_000_000_1281280 h_S_) arg0 v0
  v1

def fn_cumsum_0 {F : FTy → Type} [FloatOps F] (arg0 : FVec F S32x56x56x512 .f32) : FVec F S32x56x56x512 .f32 :=
  let cst : FVec F S_ .f32 := constant S_ .f32 0x00000000#32
  let v0 : FVec F S_ .f32 := broadcastInDim S_ ![] bcast_S_S_ cst
  let v1 : FVec F S32x56x56x512 .f32 := (fun x v => Host.reduceWindowAdd ![1, 1, 1, 512] ![1, 1, 1, 1] ![0, 0, 0, 511] ![0, 0, 0, 0] x v reduceWindows_S32x56x56x512_S32x56x56x512_w1s1p0_0_w1s1p0_0_w1s1p0_0_w512s1p511_0 h_S_) arg0 v0
  v1

def fn_cumsum {F : FTy → Type} [FloatOps F] (arg0 : FVec F S32x56x56x512 .f32) : FVec F S32x56x56x512 .f32 :=
  let v0 : FVec F S32x56x56x512 .f32 := fn_cumsum_0 (F := F) arg0
  v0

def fn {F : FTy → Type} [FloatOps F] (main_arg0 : FVec F S32x56x56x256 .f32) : IVec S32x56x56x256 1 :=
  let main_v0 : FVec F S32x56x56x256 .f32 := mulf main_arg0 main_arg0
  let main_c : IVec S_ 32 := constantI S_ 32 0#32
  let main_v1 : FVec F S32x56x56x512 .f32 := fn_pad (F := F) main_v0 main_c
  let main_v2 : FVec F S32x56x56x512 .f32 := fn_cumsum (F := F) main_v1
  let main_cst : FVec F S_ .f32 := constant S_ .f32 0x00000000#32
  let main_v3 : FVec F S32x56x56x1 .f32 := broadcastInDim S32x56x56x1 ![] bcast_S_S32x56x56x1 main_cst
  let main_v4 : FVec F S32x56x56x513 .f32 := (fun a b => concatenate S32x56x56x513 3 [⟨S32x56x56x1, a⟩, ⟨S32x56x56x512, b⟩] concatenates_S32x56x56x1_S32x56x56x512_S32x56x56x513_d3) main_v3 main_v2
  let main_v5 : FVec F S32x56x56x256 .f32 := (extractStridedSlice S32x56x56x256 ![0, 0, 0, 256] · slices_S32x56x56x513_S32x56x56x256_0_0_0_256) main_v4
  let main_v6 : FVec F S32x56x56x256 .f32 := (extractStridedSlice S32x56x56x256 ![0, 0, 0, 0] · slices_S32x56x56x513_S32x56x56x256_0_0_0_0) main_v4
  let main_v7 : FVec F S32x56x56x256 .f32 := subf main_v5 main_v6
  let main_cst_0 : FVec F S_ .f32 := constant S_ .f32 0x00000000#32
  let main_v8 : FVec F S32x56x56x256 .f32 := broadcastInDim S32x56x56x256 ![] bcast_S_S32x56x56x256 main_cst_0
  let main_v9 : IVec S32x56x56x256 1 := cmpf .ogt main_v7 main_v8
  main_v9
-- ==== Kernel.lean ====
abbrev S32x56x56x256 : Shape := ⟨4, ![32, 56, 56, 256]⟩
abbrev S100352x256 : Shape := ⟨2, ![100352, 256]⟩
abbrev S256x256 : Shape := ⟨2, ![256, 256]⟩
abbrev S_ : Shape := ⟨0, ![]⟩
abbrev S7168x256 : Shape := ⟨2, ![7168, 256]⟩

abbrev nBuf : Space → Nat
  | .hbm => 19
  | .vmem => 5
  | .smem => 0
  | _ => 0

abbrev bufTy : (tb : Table) → Fin (tcTables nBuf tb) → BufTy
  | .hbm, ⟨0, _⟩ => ⟨S32x56x56x256, .f32⟩
  | .hbm, ⟨1, _⟩ => ⟨S100352x256, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .i1⟩
  | .hbm, ⟨16, _⟩ => ⟨S256x256, .bf16⟩
  | .hbm, ⟨17, _⟩ => ⟨S100352x256, .f32⟩
  | .hbm, ⟨18, _⟩ => ⟨S32x56x56x256, .f32⟩
  | .local _ .vmem, ⟨0, _⟩ => ⟨S7168x256, .f32⟩
  | .local _ .vmem, ⟨1, _⟩ => ⟨S7168x256, .f32⟩
  | .local _ .vmem, ⟨2, _⟩ => ⟨S256x256, .bf16⟩
  | .local _ .vmem, ⟨3, _⟩ => ⟨S7168x256, .f32⟩
  | .local _ .vmem, ⟨4, _⟩ => ⟨S7168x256, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x56x56x256 : Shape := ⟨4, ![32, 56, 56, 256]⟩
abbrev S_ : Shape := ⟨0, ![]⟩
abbrev S32x56x56x512 : Shape := ⟨4, ![32, 56, 56, 512]⟩
abbrev S32x56x56x1 : Shape := ⟨4, ![32, 56, 56, 1]⟩
abbrev S32x56x56x513 : Shape := ⟨4, ![32, 56, 56, 513]⟩

abbrev nBuf : Space → Nat
  | .hbm => 24
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S_, .i32⟩
  | .hbm, ⟨3, _⟩ => ⟨S_, .f32⟩
  | .hbm, ⟨4, _⟩ => ⟨S32x56x56x512, .f32⟩
  | .hbm, ⟨5, _⟩ => ⟨S_, .f32⟩
  | .hbm, ⟨6, _⟩ => ⟨S_, .f32⟩
  | .hbm, ⟨7, _⟩ => ⟨S32x56x56x512, .f32⟩
  | .hbm, ⟨8, _⟩ => ⟨S_, .f32⟩
  | .hbm, ⟨9, _⟩ => ⟨S32x56x56x1, .f32⟩
  | .hbm, ⟨10, _⟩ => ⟨S32x56x56x513, .f32⟩
  | .hbm, ⟨11, _⟩ => ⟨S32x56x56x256, .f32⟩
  | .hbm, ⟨12, _⟩ => ⟨S32x56x56x256, .f32⟩
  | .hbm, ⟨13, _⟩ => ⟨S32x56x56x256, .f32⟩
  | .hbm, ⟨14, _⟩ => ⟨S_, .f32⟩
  | .hbm, ⟨15, _⟩ => ⟨S32x56x56x256, .f32⟩
  | .hbm, ⟨16, _⟩ => ⟨S32x56x56x256, .f32⟩
  | .hbm, ⟨17, _⟩ => ⟨S_, .f32⟩
  | .hbm, ⟨18, _⟩ => ⟨S32x56x56x256, .f32⟩
  | .hbm, ⟨19, _⟩ => ⟨S32x56x56x256, .f32⟩
  | .hbm, ⟨20, _⟩ => ⟨S_, .f32⟩
  | .hbm, ⟨21, _⟩ => ⟨S32x56x56x256, .f32⟩
  | .hbm, ⟨22, _⟩ => ⟨S32x56x56x256, .f32⟩
  | .hbm, ⟨23, _⟩ => ⟨S32x56x56x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_call1_call0_cst : Ref sig .tc := ⟨.hbm, 5, rfl⟩
abbrev main_call1_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.WindowMath.lean ====
/- The arithmetic of a sliding window sum over the extended reals, with no program in it: a sum by prefix differences, a
   sum against a 0/1 band, and the two ways of dividing by the square root of the sum. -/
module

public import Idealize.ShloMosaic.Lib.Pointwise
public import Idealize.ShloMosaic.Lib.ValueIdx
public import Mathlib.Algebra.BigOperators.Intervals

@[expose] public section

set_option maxRecDepth 16384

noncomputable section

namespace Cert.Window

open Idealize.ShloMosaic
open scoped BigOperators

/-! ## Sums over the positions of a window -/

/-- A left fold that adds one term per step is the start plus the sum of the terms. -/
theorem foldl_add {ι : Type*} (g : ι → EReal) (l : List ι) (a : EReal) :
    l.foldl (fun r n => r + g n) a = a + (l.map g).sum := by
  induction l generalizing a with
  | nil => simp
  | cons n l ih => rw [List.foldl_cons, ih, List.map_cons, List.sum_cons, add_assoc]

/-- The same fold over all positions `0 … n − 1`. -/
theorem foldl_finRange {n : ℕ} (g : Fin n → EReal) (a : EReal) :
    (List.finRange n).foldl (fun r k => r + g k) a = a + ∑ k, g k := by
  rw [foldl_add, Fin.sum_univ_def]

/-- A host window sum at an index: the initial value, plus over all window positions the operand's entry there, or the
    initial value again where the position is padding. -/
theorem reduceWindowAdd_eq {s t : Shape} (window strides lo hi : Fin s.rank → ℕ) (h : s.ReduceWindows window strides lo hi t)
    (x : s.Idx → EReal) (v : EReal) (j : t.Idx) :
    Ideal.hostReduceWindowAdd window strides lo hi h x v j
      = v + ∑ q : (⟨s.rank, window⟩ : Shape).Idx,
          if hin : ∀ a, lo a ≤ (j (a.cast h.1.symm)).val * strides a + (q a).val
              ∧ (j (a.cast h.1.symm)).val * strides a + (q a).val - lo a < s.size a
            then x (fun a => ⟨(j (a.cast h.1.symm)).val * strides a + (q a).val - lo a, (hin a).2⟩) else v := by
  unfold Ideal.hostReduceWindowAdd Host.reduceWindow
  refine (foldl_finRange _ _).trans (congrArg (v + ·) ?_)
  rw [← Equiv.sum_comp (Shape.rowMajor (⟨s.rank, window⟩ : Shape)).symm]
  exact Finset.sum_congr rfl fun k _ => dite_congr rfl (fun _ => rfl) (fun _ => rfl)

/-- A sum over the positions of a window of shape `1 × 1 × 1 × w` is a sum over its last coordinate. -/
theorem sum_last {w : ℕ} (f : (⟨4, ![1, 1, 1, w]⟩ : Shape).Idx → EReal) :
    ∑ i, f i = ∑ d : Fin w, f (ix4 0 0 0 d) := by
  have e : ∀ i : (⟨4, ![1, 1, 1, w]⟩ : Shape).Idx, i = ix4 0 0 0 (i 3) := fun i => by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  exact Fintype.sum_equiv
    { toFun := fun i => i 3, invFun := fun d => ix4 0 0 0 d, left_inv := fun i => (e i).symm, right_inv := fun _ => rfl }
    _ _ fun i => congrArg f (e i)

/-! ## A row of 256 numbers, padded by 128 zeros on both sides -/

/-- Entry `l` of the row `s` with 128 zeros before it and zeros after it. -/
def padded (s : Fin 256 → EReal) (l : ℕ) : EReal :=
  if h : 128 ≤ l ∧ l < 384 then s ⟨l - 128, by omega⟩ else 0

/-- The sum of the first `n` entries of the padded row. -/
def prefixSum (s : Fin 256 → EReal) (n : ℕ) : EReal := ∑ l ∈ Finset.range n, padded s l

/-- The sum of the entries of `s` at distance at most 128 below and 127 above channel `c`, by an indicator. -/
def bandSum (s : Fin 256 → EReal) (c : ℕ) : EReal :=
  ∑ k : Fin 256, if c ≤ k.val + 128 ∧ k.val ≤ c + 127 then s k else 0

/-- The window of 512 positions that ends at `j` sums the padded row up to and including `j`. -/
theorem window_eq_prefix (s : Fin 256 → EReal) (j : ℕ) (hj : j < 512) :
    (∑ d : Fin 512, if 511 ≤ j + d.val ∧ j + d.val - 511 < 512 then padded s (j + d.val - 511) else 0)
      = prefixSum s (j + 1) := by
  rw [Fin.sum_univ_eq_sum_range (fun d => if 511 ≤ j + d ∧ j + d - 511 < 512 then padded s (j + d - 511) else 0) 512,
    ← Finset.sum_filter, prefixSum]
  refine Finset.sum_bij' (fun d _ => j + d - 511) (fun l _ => l + 511 - j) ?_ ?_ ?_ ?_ ?_
  · intro d hd; simp only [Finset.mem_filter, Finset.mem_range] at hd ⊢; omega
  · intro l hl; simp only [Finset.mem_filter, Finset.mem_range] at hl ⊢; omega
  · intro d hd; simp only [Finset.mem_filter, Finset.mem_range] at hd; omega
  · intro l hl; simp only [Finset.mem_range] at hl; omega
  · intro d hd; rfl

/-- The entries `c … c + 255` of the padded row sum to the band sum at `c`. -/
theorem sum_Ico_padded (s : Fin 256 → EReal) (c : ℕ) (hc : c < 256) :
    ∑ l ∈ Finset.Ico c (256 + c), padded s l = bandSum s c := by
  have hb : bandSum s c = ∑ k ∈ Finset.range 256, if c ≤ k + 128 ∧ k ≤ c + 127 then padded s (k + 128) else 0 := by
    rw [bandSum, ← Fin.sum_univ_eq_sum_range
      (fun k => if c ≤ k + 128 ∧ k ≤ c + 127 then padded s (k + 128) else 0) 256]
    refine Finset.sum_congr rfl fun k _ => ?_
    have hk : padded s (k.val + 128) = s k := by
      rw [padded, dif_pos (by omega)]; congr 1
    rw [hk]
  rw [hb, ← Finset.sum_filter, ← Finset.sum_filter_of_ne (s := Finset.Ico c (256 + c)) (f := padded s)
    (p := fun l => 128 ≤ l ∧ l < 384) fun l _ hl => by_contra fun h => hl (dif_neg h)]
  refine Finset.sum_bij' (fun l _ => l - 128) (fun k _ => k + 128) ?_ ?_ ?_ ?_ ?_
  · intro l hl; simp only [Finset.mem_filter, Finset.mem_range, Finset.mem_Ico] at hl ⊢; omega
  · intro k hk; simp only [Finset.mem_filter, Finset.mem_range, Finset.mem_Ico] at hk ⊢; omega
  · intro l hl; simp only [Finset.mem_filter] at hl; omega
  · intro k hk; omega
  · intro l hl
    simp only [Finset.mem_filter] at hl
    rw [show l - 128 + 128 = l by omega]

/-- The sum of the first `256 + c` entries is the sum of the first `c` plus the band sum at `c`. -/
theorem prefix_add (s : Fin 256 → EReal) (c : ℕ) (hc : c < 256) :
    prefixSum s (256 + c) = prefixSum s c + bandSum s c := by
  rw [← sum_Ico_padded s c hc, prefixSum, prefixSum, Finset.sum_range_add_sum_Ico _ (by omega)]

/-- A square is not negative, at the infinities too. -/
theorem sq_nonneg (x : EReal) : 0 ≤ x * x := by
  rw [EReal.mul_nonneg_iff]
  rcases le_total 0 x with h | h
  · exact Or.inl ⟨h, h⟩
  · exact Or.inr ⟨h, h⟩

/-- For a row of squares whose two prefix sums 256 apart differ by a positive amount, that amount is the band sum: the
    earlier prefix sum is then no infinity, so it cancels. -/
theorem prefix_sub (s : Fin 256 → EReal) (hs : ∀ k, 0 ≤ s k) (c : ℕ) (hc : c < 256)
    (hpos : 0 < prefixSum s (256 + c) - prefixSum s c) :
    prefixSum s (256 + c) - prefixSum s c = bandSum s c := by
  have hA : 0 ≤ prefixSum s c := Finset.sum_nonneg fun l _ => by
    unfold padded; split
    · exact hs _
    · exact le_rfl
  rw [prefix_add s c hc] at hpos ⊢
  generalize prefixSum s c = A at hA hpos ⊢
  generalize bandSum s c = B at hpos ⊢
  induction A with
  | bot => simp at hA
  | top => simp at hpos
  | coe a => exact EReal.add_sub_cancel_left

/-! ## The scale -/

/-- Multiplying by the reciprocal square root of a positive `w` is dividing by `w ^ (1/2)`, at infinity too. -/
theorem mul_rsqrt (x w : EReal) (hw : 0 < w) :
    x * Ideal.rsqrt w = Ideal.div x (Ideal.pow w ((1 / 2 : ℝ) : EReal)) := by
  induction w with
  | bot => simp at hw
  | top =>
    have h : (0 : EReal) < ((1 / 2 : ℝ) : EReal) := by exact_mod_cast (by norm_num : (0 : ℝ) < 1 / 2)
    rw [Ideal.rsqrt_top, Ideal.pow_top, if_pos h, Ideal.div, if_neg EReal.top_ne_zero, EReal.inv_top]
  | coe w =>
    have hr : 0 < w := by exact_mod_cast hw
    have hs : Real.rpow w (1 / 2) = Real.sqrt w := (Real.sqrt_eq_rpow w).symm
    rw [Ideal.pow_coe_coe, hs, Ideal.div_coe (Real.sqrt_pos.2 hr).ne', Ideal.rsqrt_coe,
      if_neg (not_lt.2 hr.le), if_neg hr.ne', one_div]

/-- The bit pattern of one half denotes one half. -/
theorem half : Ideal.ofBits .f32 0x3F000000#32 = ((1 / 2 : ℝ) : EReal) := by
  simp [Ideal.ofBits, Ideal.ieee, -EReal.coe_mul]
  norm_num

end Cert.Window

end
-- ==== Proof.KernelValue.lean ====
/- The kernel's result at the ideal instance: every entry is the input entry times the reciprocal square root of the sum
   of the squares in the channel window. -/
module

public import proofs.«01_k».proof.Proof.Gen.KernelIdeal.Frame
public import proofs.«01_k».proof.Proof.WindowMath
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Lrn

open Cert.KernelIdeal Cert.KernelIdeal.Gen
open scoped BigOperators

variable (m : (ℓ : Loc nD τ sig) → Buf (Elt Ideal) ℓ)

/-- The rows times the reciprocal square roots of their squares against the mask `B`. -/
def scaled (X : FVec Ideal S100352x256 .f32) (B : FVec Ideal S256x256 .bf16) : FVec Ideal S100352x256 .f32 :=
  fun i => X i * Ideal.rsqrt (∑ k : Fin 256, X (ix2 (i 0) k) * X (ix2 (i 0) k) * B (ix2 k (i 1)))

/-- The blocks' places, at every grid point: rows by rows for the input and the output, the whole mask always. -/
theorem places : ∀ t : Fin cfg0.N, win0_0.index t = ![t.val, 0] ∧ win0_1.index t = ![0, 0] ∧ win0_2.index t = ![t.val, 0] :=
  (by decide +kernel : ∀ t : Fin grid0.N, _)

/-- What the body stores at place `y` of a block is `scaled` of the two arrays at the place's row and channel. -/
theorem stored (c : Dev nD) (t : Fin cfg0.N) (y : S7168x256.Idx) :
    k0_pay1 (F := Ideal) (iblk m c 0 t) (iblk m c 1 t) y
      = scaled (V m c main_v0) (V m c main_v12) (((cfg0.win 2).blk t).view.emb y) := by
  pointwise [k0_pay1, scaled]
  blk_point [iblk, V, places t]

/-- The output array after the run is `scaled` of the reshaped input and the mask. -/
theorem final (c : Dev nD) : (dats m 0 c).arrAt 2 (cfgs 0).N = scaled (V m c main_v0) (V m c main_v12) := by
  refine (dats m 0 c).arrAt_eq_of_covers 2 _ (by decide +kernel) fun t _ y => ?_
  blk_simp
  rw [after0_2]; frame_out
  exact stored m c t y

/-- The mask as the host lines compute it: row at least column less 128, and at most column plus 127. -/
def mask : FVec Ideal S256x256 .bf16 :=
  uitofp .bf16 (andi
    (cmpi .sge (iotaInDim S256x256 32 0) (subi (iotaInDim S256x256 32 1) (broadcastInDim S256x256 ![] bcast_S_S256x256 (constantI S_ 32 128#32))))
    (cmpi .sle (iotaInDim S256x256 32 0) (subi (addi (iotaInDim S256x256 32 1) (broadcastInDim S256x256 ![] bcast_S_S256x256 (constantI S_ 32 128#32)))
      (broadcastInDim S256x256 ![] bcast_S_S256x256 (constantI S_ 32 1#32)))))

/-- The region finds the mask so computed. -/
theorem mask_eq (c : Dev nD) : (V m c main_v12 : FVec Ideal S256x256 .bf16) = mask := by
  show StableHlo.after hostOps0 (fun b => m (c, b)) (Proc.devRef .tc main_v12) = mask
  after_results
  rfl

/-- The two word comparisons together, on row and column numbers below 256: the bit of the band condition. -/
theorem mask_word (k j : ℕ) (hk : k < 256) (hj : j < 256) :
    IntOp.andi (IntOp.cmpi .sge (BitVec.ofNat 32 k) (IntOp.subi (BitVec.ofNat 32 j) 128#32))
        (IntOp.cmpi .sle (BitVec.ofNat 32 k) (IntOp.subi (IntOp.addi (BitVec.ofNat 32 j) 128#32) 1#32))
      = BitVec.ofBool (decide (j ≤ k + 128 ∧ k ≤ j + 127)) := by
  have e1 : (IntOp.subi (BitVec.ofNat 32 j) 128#32).toInt = (j : Int) - 128 := by
    rw [IntOp.subi, BitVec.toInt_sub, WordCmp.toInt_ofNat_of_lt (by omega), show (128#32).toInt = 128 from rfl, Int.bmod_def]
    omega
  have e2 : IntOp.subi (IntOp.addi (BitVec.ofNat 32 j) 128#32) 1#32 = BitVec.ofNat 32 (j + 127) := by
    apply BitVec.eq_of_toNat_eq
    simp only [IntOp.subi, IntOp.addi, BitVec.toNat_sub, BitVec.toNat_add, BitVec.toNat_ofNat]
    omega
  have e3 : (BitVec.ofNat 32 k).toInt = (k : Int) := WordCmp.toInt_ofNat_of_lt (by omega)
  have e4 : (BitVec.ofNat 32 (j + 127)).toInt = ((j + 127 : ℕ) : Int) := WordCmp.toInt_ofNat_of_lt (by omega)
  rw [e2]
  simp only [IntOp.andi, IntOp.cmpi, BitVec.sle, e1, e3, e4]
  rw [show decide ((j : Int) - 128 ≤ k) = decide (j ≤ k + 128) from decide_eq_decide.2 (by omega),
    show decide ((k : Int) ≤ ((j + 127 : ℕ) : Int)) = decide (k ≤ j + 127) from decide_eq_decide.2 (by omega)]
  by_cases h1 : j ≤ k + 128 <;> by_cases h2 : k ≤ j + 127 <;> simp [h1, h2]

/-- The mask's entry at row `k`, column `j`: one where `k` is at most 128 below and 127 above `j`, zero elsewhere. -/
theorem mask_entry (k j : Fin 256) : mask (ix2 k j) = if j.val ≤ k.val + 128 ∧ k.val ≤ j.val + 127 then (1 : EReal) else 0 := by
  pointwise [mask]
  rw [mask_word _ _ k.isLt j.isLt]
  show (((BitVec.ofBool (decide (j.val ≤ k.val + 128 ∧ k.val ≤ j.val + 127))).toNat : ℝ) : EReal) = _
  by_cases h : j.val ≤ k.val + 128 ∧ k.val ≤ j.val + 127 <;> simp [h]

/-- The reshaped input's entry at row `56 · (56 · b + h) + w`. -/
theorem rows_eq (c : Dev nD) : (V m c main_v0 : FVec Ideal S100352x256 .f32)
    = shapeCast S100352x256 (m ((c : Thread nD τ).loc main_arg0) : FVec Ideal S32x56x56x256 .f32) shapeCasts_S32x56x56x256_S100352x256 := by
  entry_read
  rfl

/-- What the launch leaves in the result array: the output array reshaped. -/
theorem tail (c : Dev nD) :
    Pipeline.afterTail₀ cfgs (dats m) 0 (V0 m) [hostOps1] c main_v14
      = shapeCast S32x56x56x256 (scaled (V m c main_v0) (V m c main_v12)) shapeCasts_S100352x256_S32x56x56x256 := by
  unfold Pipeline.afterTail₀
  have h := Pipeline.withArrays_arr (τ := τ) spec0 (by decide) c (V0 m c) (fun w => (dats m 0 c).arrAt w cfg0.N) 2
  simp only [List.flatten_cons, List.flatten_nil, List.append_nil]
  after_results
  exact congrArg (fun X : FVec Ideal S100352x256 .f32 => shapeCast S32x56x56x256 X shapeCasts_S100352x256_S32x56x56x256)
    (h.trans (final m c))

/-- The kernel's result as a function of its argument: reshape to rows, scale against the mask, reshape back. -/
def result (x : FVec Ideal S32x56x56x256 .f32) : FVec Ideal S32x56x56x256 .f32 :=
  shapeCast S32x56x56x256 (scaled (shapeCast S100352x256 x shapeCasts_S32x56x56x256_S100352x256) mask)
    shapeCasts_S100352x256_S32x56x56x256

/-- Every entry of the result: the argument's entry times the reciprocal square root of the sum of the squares in the
    channel window. -/
theorem result_entry (x : FVec Ideal S32x56x56x256 .f32) (b : Fin 32) (h w : Fin 56) (j : Fin 256) :
    result x (ix4 b h w j)
      = x (ix4 b h w j) * Ideal.rsqrt (Cert.Window.bandSum (fun k => x (ix4 b h w k) * x (ix4 b h w k)) j.val) := by
  pointwise [result, scaled]
  refine congrArg (fun t => x (ix4 b h w j) * Ideal.rsqrt t) (Finset.sum_congr rfl fun k _ => ?_)
  rw [mask_entry]
  by_cases hk : j.val ≤ k.val + 128 ∧ k.val ≤ j.val + 127 <;> simp [hk]

/-- The kernel runs and leaves `result` of its argument in the result array, the argument unchanged. -/
theorem run (ρ : Dev nD → PrngReg) :
    θ_run defs (onTc (τ := τ) (main (F := Ideal))) ⟨m, fun _ => 0, ρ⟩ fun r => ∀ c : Dev nD,
      r.2.mem ((c : Thread nD τ).loc main_v14) = result (m ((c : Thread nD τ).loc main_arg0))
      ∧ r.2.mem ((c : Thread nD τ).loc main_arg0) = m ((c : Thread nD τ).loc main_arg0) := by
  refine θ_run_mono (run_main m ρ) fun r h c => ⟨?_, ?_⟩
  · refine ((h c).2 main_v14 (Pipeline.mem_restRefs_of main_v14 (by decide) (by decide))).trans ((tail m c).trans ?_)
    rw [rows_eq m c, mask_eq m c]
    rfl
  · exact ((h c).2 main_arg0 (Pipeline.mem_restRefs_of main_arg0 (by decide) (by decide))).trans (W_main_arg0 m (dats m) c)

end Cert.KernelIdeal.Lrn

end
-- ==== Proof.RefValue.lean ====
/- The reference and the precondition at the ideal instance: both read the same window sums, prefix differences of the
   padded squares, which for a real input are the band sums the kernel takes. -/
module

public import proofs.«01_k».proof.Proof.Gen.ReferenceIdeal.Run
public import proofs.«01_k».proof.Proof.Gen.Pre_positive_windows
public import proofs.«01_k».proof.Proof.WindowMath
public import Idealize.ShloMosaic.Lib.Pointwise

@[expose] public section

set_option maxRecDepth 16384

noncomputable section

open Idealize.ShloMosaic Idealize.ShloMosaic.TcCoe Idealize.SL.Sem

namespace Cert.ReferenceIdeal.Lrn

open Cert.ReferenceIdeal Cert.ReferenceIdeal.Gen
open scoped BigOperators

/-- The running sums of an array along its last axis, as the host's window sum from zero. -/
def running (y : FVec Ideal S32x56x56x512 .f32) : FVec Ideal S32x56x56x512 .f32 :=
  Host.reduceWindowAdd ![1, 1, 1, 512] ![1, 1, 1, 1] ![0, 0, 0, 511] ![0, 0, 0, 0] y
    (broadcastInDim S_ ![] bcast_S_S_ (constant S_ .f32 0x00000000#32))
    reduceWindows_S32x56x56x512_S32x56x56x512_w1s1p0_0_w1s1p0_0_w1s1p0_0_w512s1p511_0 h_S_

/-- The squares with 128 zeros on both sides of the channel axis. -/
def squares (x : FVec Ideal S32x56x56x256 .f32) : FVec Ideal S32x56x56x512 .f32 :=
  pad S32x56x56x512 ![0, 0, 0, 128] ![0, 0, 0, 128] ![0, 0, 0, 0] (mulf x x) (sitofp .f32 (constantI S_ 32 0#32))
    pads_S32x56x56x256_S32x56x56x512_000_000_000_1281280 h_S_

/-- The prefix sums: a zero, then the running sums of the padded squares. -/
def prefixes (x : FVec Ideal S32x56x56x256 .f32) : FVec Ideal S32x56x56x513 .f32 :=
  concatenate S32x56x56x513 3
    [⟨S32x56x56x1, (broadcastInDim S32x56x56x1 ![] bcast_S_S32x56x56x1 (constant S_ .f32 0x00000000#32))⟩,
      ⟨S32x56x56x512, running (squares x)⟩] concatenates_S32x56x56x1_S32x56x56x512_S32x56x56x513_d3

/-- The window sums: prefix sums 256 apart, subtracted. -/
def windows (x : FVec Ideal S32x56x56x256 .f32) : FVec Ideal S32x56x56x256 .f32 :=
  subf (extractStridedSlice S32x56x56x256 ![0, 0, 0, 256] (prefixes x) slices_S32x56x56x513_S32x56x56x256_0_0_0_256)
    (extractStridedSlice S32x56x56x256 ![0, 0, 0, 0] (prefixes x) slices_S32x56x56x513_S32x56x56x256_0_0_0_0)

/-- The reference's result as a function of its argument. -/
def result (x : FVec Ideal S32x56x56x256 .f32) : FVec Ideal S32x56x56x256 .f32 :=
  Host.divf x (Host.powf
    (addf (broadcastInDim S32x56x56x256 ![] bcast_S_S32x56x56x256 (constant S_ .f32 0x00000000#32))
      (mulf (broadcastInDim S32x56x56x256 ![] bcast_S_S32x56x56x256 (constant S_ .f32 0x3F800000#32)) (windows x)))
    (broadcastInDim S32x56x56x256 ![] bcast_S_S32x56x56x256 (constant S_ .f32 0x3F000000#32)))

/-- The row of squares at one position. -/
def row (x : FVec Ideal S32x56x56x256 .f32) (b : Fin 32) (h w : Fin 56) : Fin 256 → EReal :=
  fun k => x (ix4 b h w k) * x (ix4 b h w k)

/-- A padded square is the entry of the padded row. -/
theorem squares_entry (x : FVec Ideal S32x56x56x256 .f32) (b : Fin 32) (h w : Fin 56) (l : Fin 512) :
    squares x (ix4 b h w l) = Cert.Window.padded (row x b h w) l.val := by
  pointwise [squares, Cert.Window.padded, row]
  by_cases hl : 128 ≤ l.val ∧ l.val < 384
  · rw [dif_pos hl, dif_pos ⟨hl.1, by omega⟩]
  · rw [dif_neg hl, dif_neg (by omega)]
    show (((0#32 : BitVec 32).toInt : ℝ) : EReal) = 0
    simp

/-- A running sum at `j` is the sum over the 512 positions ending there, those before the axis counting zero. -/
theorem running_entry (y : FVec Ideal S32x56x56x512 .f32) (b : Fin 32) (h w : Fin 56) (j : Fin 512) :
    running y (ix4 b h w j)
      = ∑ d : Fin 512, if hd : 511 ≤ j.val + d.val ∧ j.val + d.val - 511 < 512 then y (ix4 b h w ⟨j.val + d.val - 511, hd.2⟩) else 0 := by
  have hz : (broadcastInDim S_ ![] bcast_S_S_ (constant (F := Ideal) S_ .f32 0x00000000#32)) (Shape.Idx.first h_S_) = (0 : EReal) := by
    pointwise
  unfold running Host.reduceWindowAdd
  rw [hz]
  refine (Cert.Window.reduceWindowAdd_eq _ _ _ _ _ y 0 (ix4 b h w j)).trans ?_
  rw [zero_add]
  refine (Cert.Window.sum_last (w := 512) _).trans (Finset.sum_congr rfl fun d _ => ?_)
  by_cases hd : 511 ≤ j.val + d.val ∧ j.val + d.val - 511 < 512
  · rw [dif_pos hd, dif_pos]
    · refine congrArg y (funext fun a => Fin.ext ?_)
      match a with
      | ⟨0, _⟩ => show b.val * 1 + 0 - 0 = b.val; omega
      | ⟨1, _⟩ => show h.val * 1 + 0 - 0 = h.val; omega
      | ⟨2, _⟩ => show w.val * 1 + 0 - 0 = w.val; omega
      | ⟨3, _⟩ => show j.val * 1 + d.val - 511 = j.val + d.val - 511; omega
    · intro a
      match a with
      | ⟨0, _⟩ => exact (show 0 ≤ b.val * 1 + 0 ∧ b.val * 1 + 0 - 0 < 32 by omega)
      | ⟨1, _⟩ => exact (show 0 ≤ h.val * 1 + 0 ∧ h.val * 1 + 0 - 0 < 56 by omega)
      | ⟨2, _⟩ => exact (show 0 ≤ w.val * 1 + 0 ∧ w.val * 1 + 0 - 0 < 56 by omega)
      | ⟨3, _⟩ => exact (show 511 ≤ j.val * 1 + d.val ∧ j.val * 1 + d.val - 511 < 512 by omega)
  · rw [dif_neg hd, dif_neg]
    intro hin
    have h3 : 511 ≤ j.val * 1 + d.val ∧ j.val * 1 + d.val - 511 < 512 := hin 3
    exact hd (by omega)

/-- Prefix sum `n` at one position is the sum of the first `n` entries of its padded row of squares. -/
theorem prefixes_entry (x : FVec Ideal S32x56x56x256 .f32) (b : Fin 32) (h w : Fin 56) (n : Fin 513) :
    prefixes x (ix4 b h w n) = Cert.Window.prefixSum (row x b h w) n.val := by
  pointwise [prefixes]
  by_cases hn : n.val < 1
  · rw [dif_pos hn, show n.val = 0 by omega, Cert.Window.prefixSum, Finset.range_zero, Finset.sum_empty]
  · rw [dif_neg hn, running_entry]
    refine Eq.trans ?_ ((Cert.Window.window_eq_prefix (row x b h w) (n.val - 1) (by omega)).trans
      (by rw [show n.val - 1 + 1 = n.val by omega]))
    refine Finset.sum_congr rfl fun d _ => ?_
    split
    · rw [squares_entry]
    · rfl

/-- A window sum is the difference of two prefix sums. -/
theorem windows_entry (x : FVec Ideal S32x56x56x256 .f32) (b : Fin 32) (h w : Fin 56) (j : Fin 256) :
    windows x (ix4 b h w j)
      = Cert.Window.prefixSum (row x b h w) (256 + j.val) - Cert.Window.prefixSum (row x b h w) j.val := by
  pointwise [windows]
  rw [prefixes_entry, prefixes_entry]

/-- An entry of the reference's result. -/
theorem result_entry (x : FVec Ideal S32x56x56x256 .f32) (b : Fin 32) (h w : Fin 56) (j : Fin 256) :
    result x (ix4 b h w j)
      = Ideal.div (x (ix4 b h w j)) (Ideal.pow (windows x (ix4 b h w j)) ((1 / 2 : ℝ) : EReal)) := by
  pointwise [result]
  rw [Cert.Window.half]

/-- The predicate's bit at one index is set only where the window sum is positive. -/
theorem windows_pos (x : FVec Ideal S32x56x56x256 .f32) (i : S32x56x56x256.Idx)
    (hp : Cert.Pre_positive_windows.fn (F := Ideal) x i = 1#1) : 0 < windows x i := by
  have e : Cert.Pre_positive_windows.fn (F := Ideal) x i
      = BitVec.ofBool (decide (Ideal.ofBits .f32 0x00000000#32 < windows x i)) := rfl
  rw [e, Ideal.ofBits_zero_f32] at hp
  by_contra h
  rw [decide_eq_false h] at hp
  exact absurd hp (by decide)

end Cert.ReferenceIdeal.Lrn

end
-- ==== Proof.Equation.lean ====
/- The two programs' results are equal wherever every window sum is positive. -/
module

public import proofs.«01_k».proof.Proof.KernelValue
public import proofs.«01_k».proof.Proof.RefValue

@[expose] public section

set_option maxRecDepth 16384

noncomputable section

namespace Cert.Window

open Idealize.ShloMosaic

/-- Where the window sum is positive it is the band sum of the squares. -/
theorem windows_eq_band (x : FVec Ideal Cert.ReferenceIdeal.S32x56x56x256 .f32) (b : Fin 32) (h w : Fin 56) (j : Fin 256)
    (hpos : 0 < Cert.ReferenceIdeal.Lrn.windows x (ix4 b h w j)) :
    Cert.ReferenceIdeal.Lrn.windows x (ix4 b h w j) = bandSum (fun k => x (ix4 b h w k) * x (ix4 b h w k)) j.val := by
  rw [Cert.ReferenceIdeal.Lrn.windows_entry] at hpos ⊢
  exact prefix_sub _ (fun k => sq_nonneg _) _ j.isLt hpos

/-- The kernel's result is the reference's result for every argument the precondition admits. -/
theorem results_eq (x : FVec Ideal Cert.ReferenceIdeal.S32x56x56x256 .f32)
    (hp : Cert.Pre_positive_windows.fn (F := Ideal) x = fun _ => 1#1) :
    Cert.KernelIdeal.Lrn.result x = Cert.ReferenceIdeal.Lrn.result x := by
  funext i
  obtain ⟨b, h, w, j, rfl⟩ : ∃ (b : Fin 32) (h w : Fin 56) (j : Fin 256), i = ix4 b h w j := ⟨_, _, _, _, eq_ix4 i⟩
  have hpos := Cert.ReferenceIdeal.Lrn.windows_pos x (ix4 b h w j) (congrFun hp _)
  refine (Cert.KernelIdeal.Lrn.result_entry x b h w j).trans (Eq.trans ?_ (Cert.ReferenceIdeal.Lrn.result_entry x b h w j).symm)
  rw [← windows_eq_band x b h w j hpos]
  exact mul_rsqrt _ _ hpos

end Cert.Window

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_positive_windows
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference declares no semaphore, so its run ends with every counter at zero and its argument unchanged. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  θ_run_mono (Cert.ReferenceIdeal.Value.run m g) fun r h => ⟨fun c => (h c).2, sem_eq_zero_of_no_sems (by decide) _⟩

/-- The kernel and the reference end with equal results, from memories that agree on the argument. -/
theorem equal_results :
    Cert.algebraic_KernelIdeal_ReferenceIdeal_pre_positive_windows (hKernelIdeal := Cert.KernelIdeal.Gen.facts)
      (hReferenceIdeal := Cert.ReferenceIdeal.Gen.facts) (hPre_positive_windows := Cert.Pre_positive_windows.Gen.facts) := by
  intro m g m' g' hpre hagree
  refine ⟨fun c => Cert.KernelIdeal.Lrn.result (m ((c.tc : Thread Cert.KernelIdeal.nD Cert.KernelIdeal.τ).loc Cert.KernelIdeal.main_arg0)),
    Cert.KernelIdeal.Lrn.run m g, θ_run_mono (Cert.ReferenceIdeal.Value.run m' g') fun r h c => ⟨(h c).1.trans ?_, (h c).2⟩⟩
  have e : Cert.ReferenceIdeal.Lrn.result
      (m' ((c.tc : Thread Cert.ReferenceIdeal.nD Cert.ReferenceIdeal.τ).loc Cert.ReferenceIdeal.main_arg0))
      = Cert.KernelIdeal.Lrn.result (m ((c.tc : Thread Cert.KernelIdeal.nD Cert.KernelIdeal.τ).loc Cert.KernelIdeal.main_arg0)) := by
    rw [hagree c]
    exact (Cert.Window.results_eq _ (hpre c)).symm
  exact e

theorem claim : Cert.Claim :=
  ⟨Cert.Kernel.Gen.facts, Cert.KernelIdeal.Gen.facts, Cert.ReferenceIdeal.Gen.facts, Cert.Pre_positive_windows.Gen.facts,
    fun m g _ => Cert.Kernel.Gen.frame m g, fun m g _ => Cert.KernelIdeal.Gen.frame m g,
    fun m g _ => Cert.KernelIdeal.Gen.frame m g, fun m g _ => reference_quiet m g, fun m g _ => reference_quiet m g,
    trivial, equal_results⟩

end Cert.Proof

end
